-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x11392 : Shape := ⟨3, ![4, 2048, 11392]⟩
abbrev S4x2048x1 : Shape := ⟨3, ![4, 2048, 1]⟩
abbrev S4096x11392 : Shape := ⟨2, ![4096, 11392]⟩
abbrev S4096 : Shape := ⟨1, ![4096]⟩
abbrev S4x2048x4096 : Shape := ⟨3, ![4, 2048, 4096]⟩
abbrev S8192x11392 : Shape := ⟨2, ![8192, 11392]⟩
abbrev S8192x1 : Shape := ⟨2, ![8192, 1]⟩
abbrev S1x4096 : Shape := ⟨2, ![1, 4096]⟩
abbrev S8192x4096 : Shape := ⟨2, ![8192, 4096]⟩
abbrev S1024x11392 : Shape := ⟨2, ![1024, 11392]⟩
abbrev S1024x1 : Shape := ⟨2, ![1024, 1]⟩
abbrev S512x11392 : Shape := ⟨2, ![512, 11392]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x11392, .fp8e4m3⟩
  | .hbm, ⟨1, _⟩ => ⟨S4x2048x1, .f32⟩
  | .hbm, ⟨2, _⟩ => ⟨S4096x11392, .fp8e4m3⟩
  | .hbm, ⟨3, _⟩ => ⟨S4096, .f32⟩
  | .hbm, ⟨4, _⟩ => ⟨S4x2048x4096, .bf16⟩
  | .hbm, ⟨5, _⟩ => ⟨S8192x11392, .fp8e4m3⟩
  | .hbm, ⟨6, _⟩ => ⟨S8192x1, .f32⟩
  | .hbm, ⟨7, _⟩ => ⟨S1x4096, .f32⟩
  | .hbm, ⟨8, _⟩ => ⟨S8192x4096, .bf16⟩
  | .hbm, ⟨9, _⟩ => ⟨S8192x4096, .bf16⟩
  | .hbm, ⟨10, _⟩ => ⟨S4x2048x4096, .bf16⟩
  | .local _ .vmem, ⟨0, _⟩ => ⟨S1024x11392, .fp8e4m3⟩
  | .local _ .vmem, ⟨1, _⟩ => ⟨S1024x11392, .fp8e4m3⟩
  | .local _ .vmem, ⟨2, _⟩ => ⟨S1024x1, .f32⟩
  | .local _ .vmem, ⟨3, _⟩ => ⟨S1024x1, .f32⟩
  | .local _ .vmem, ⟨4, _⟩ => ⟨S512x11392, .fp8e4m3⟩
  | .local _ .vmem, ⟨5, _⟩ => ⟨S512x11392, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4x2048x11392, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x11392 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x11392 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x11392 : Shape := ⟨3, ![4, 2048, 11392]⟩
abbrev S4x2048x1 : Shape := ⟨3, ![4, 2048, 1]⟩
abbrev S4096x11392 : Shape := ⟨2, ![4096, 11392]⟩
abbrev S4096 : Shape := ⟨1, ![4096]⟩
abbrev S4x2048x4096 : Shape := ⟨3, ![4, 2048, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x11392, .fp8e4m3⟩
  | .hbm, ⟨1, _⟩ => ⟨S4x2048x1, .f32⟩
  | .hbm, ⟨2, _⟩ => ⟨S4096x11392, .fp8e4m3⟩
  | .hbm, ⟨3, _⟩ => ⟨S4096, .f32⟩
  | .hbm, ⟨4, _⟩ => ⟨S4x2048x4096, .bf16⟩
  | .hbm, ⟨5, _⟩ => ⟨S4x2048x4096, .bf16⟩
  | .local _ .vmem, ⟨0, _⟩ => ⟨S4x2048x11392, .fp8e4m3⟩
  | .local _ .vmem, ⟨1, _⟩ => ⟨S4x2048x1, .f32⟩
  | .local _ .vmem, ⟨2, _⟩ => ⟨S4096x11392, .fp8e4m3⟩
  | .local _ .vmem, ⟨3, _⟩ => ⟨S4096, .f32⟩
  | .local _ .vmem, ⟨4, _⟩ => ⟨S4x2048x4096, .bf16⟩
  | .local _ .vmem, ⟨5, _⟩ => ⟨S4x2048x4096, .bf16⟩
  | _, _ => ⟨S4x2048x11392, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x11392 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x11392 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  What one grid point of the kernel stores, element by element over the extended reals: the row-by-row product of
  the point's block of `x` with its block of `w`, times the token's scale, times the output channel's scale, plus
  the residual.
-/
module

public import proofs.«01_k».proof.Proof.Gen.KernelIdeal.Skeleton
public import Idealize.ShloMosaic.Lib.Pointwise

@[expose] public section

noncomputable section

namespace Cert.KernelIdeal.Block

open Cert.KernelIdeal Cert.KernelIdeal.Gen Idealize.ShloMosaic Idealize.SL.Sem

/-- The stored block at row `r` and column `l`: `(Σ_k x[r, k] · w[l, k]) · xs[r] · ws[l] + res[r, l]`. -/
theorem pay_apply (x : Vec Ideal S1024x11392 .fp8e4m3) (w : Vec Ideal S512x11392 .fp8e4m3)
    (xs : Vec Ideal S1024x1 .f32) (ws : Vec Ideal S1x512 .f32) (res : Vec Ideal S1024x512 .bf16)
    (r : Fin 1024) (l : Fin 512) :
    k0_pay1 (F := Ideal) x w xs ws res (ix2 r l)
      = (∑ k : Fin 11392, x (ix2 r k) * w (ix2 l k)) * xs (ix2 r 0) * ws (ix2 0 l) + res (ix2 r l) := by
  pointwise [k0_pay1]

end Cert.KernelIdeal.Block

end
-- ==== Proof.Array.lean ====
/-
  What the kernel's result array holds after the pipelined region: the linear layer over the flattened tokens.
  Every grid point writes back its block of ONE function of the arrays that the region finds, and the blocks
  cover the array.
-/
module

public import proofs.«01_k».proof.Proof.Block
public import proofs.«01_k».proof.Proof.Gen.KernelIdeal.Frame
public import Idealize.ShloMosaic.Lib.Pipeline.Value

@[expose] public section

noncomputable section

namespace Cert.KernelIdeal.Linear

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The linear layer over flattened tokens: at token `i 0` and output channel `i 1`,
    `(Σ_k x[token, k] · w[channel, k]) · xs[token] · ws[channel] + res[token, channel]`. -/
def flat (x : Vec Ideal S8192x11392 .fp8e4m3) (xs : Vec Ideal S8192x1 .f32) (w : Vec Ideal S4096x11392 .fp8e4m3)
    (ws : Vec Ideal S1x4096 .f32) (res : Vec Ideal S8192x4096 .bf16) : Vec Ideal S8192x4096 .bf16 :=
  fun i => (∑ k : Fin 11392, x (ix2 (i 0) k) * w (ix2 (i 1) k)) * xs (ix2 (i 0) 0) * ws (ix2 0 (i 1)) + res i

/-- The linear layer of the arrays that the region finds on device `c`. -/
abbrev layer (c : Dev nD) : Vec Ideal S8192x4096 .bf16 :=
  flat (V m c main_v0) (V m c main_v1) (V m c main_arg2) (V m c main_v2) (V m c main_v3)

/-- The six windows' block indices at grid point `t` of the 8 × 8 grid: row blocks follow `t / 8`, column blocks
    follow `t % 8`. -/
theorem idx_facts : ∀ t : Fin cfg0.N,
    (win0_0.index t 0 = t.val / 8 ∧ win0_0.index t 1 = 0)
    ∧ (win0_1.index t 0 = t.val / 8 ∧ win0_1.index t 1 = 0)
    ∧ (win0_2.index t 0 = t.val % 8 ∧ win0_2.index t 1 = 0)
    ∧ (win0_3.index t 0 = 0 ∧ win0_3.index t 1 = t.val % 8)
    ∧ (win0_4.index t 0 = t.val / 8 ∧ win0_4.index t 1 = t.val % 8)
    ∧ (win0_5.index t 0 = t.val / 8 ∧ win0_5.index t 1 = t.val % 8) :=
  (by decide +kernel : ∀ t : Fin grid0.N, _)

/-- The grid has 64 points. -/
theorem N_eq : cfg0.N = 64 := by decide

/-- The row of the array that row `r` of point `t`'s block is. -/
def row (t : Fin cfg0.N) (r : Fin 1024) : Fin 8192 :=
  ⟨t.val / 8 * 1024 + r.val, by have := t.isLt; have := N_eq; omega⟩

/-- The column of the array that column `l` of point `t`'s block is. -/
def col (t : Fin cfg0.N) (l : Fin 512) : Fin 4096 := ⟨t.val % 8 * 512 + l.val, by omega⟩

/-- The block of `x` at point `t`: its rows follow the row block. -/
theorem emb0 (t : Fin cfg0.N) (r : Fin 1024) (k : Fin 11392) :
    ((cfg0.win 0).blk t).view.emb (ix2 r k) = (ix2 (row t r) k : S8192x11392.Idx) := by
  obtain ⟨⟨h0, h1⟩, -⟩ := idx_facts t
  funext a; apply Fin.ext
  match a with
  | ⟨0, _⟩ => show win0_0.index t 0 * 1024 + 1 * r.val = t.val / 8 * 1024 + r.val; omega
  | ⟨1, _⟩ => show win0_0.index t 1 * 11392 + 1 * k.val = k.val; omega

/-- The block of token scales at point `t`. -/
theorem emb1 (t : Fin cfg0.N) (r : Fin 1024) :
    ((cfg0.win 1).blk t).view.emb (ix2 r 0) = (ix2 (row t r) 0 : S8192x1.Idx) := by
  obtain ⟨-, ⟨h0, h1⟩, -⟩ := idx_facts t
  funext a; apply Fin.ext
  match a with
  | ⟨0, _⟩ => show win0_1.index t 0 * 1024 + 1 * r.val = t.val / 8 * 1024 + r.val; omega
  | ⟨1, _⟩ => show win0_1.index t 1 * 1 + 1 * 0 = 0; omega

/-- The block of `w` at point `t`: its rows follow the column block of the result. -/
theorem emb2 (t : Fin cfg0.N) (l : Fin 512) (k : Fin 11392) :
    ((cfg0.win 2).blk t).view.emb (ix2 l k) = (ix2 (col t l) k : S4096x11392.Idx) := by
  obtain ⟨-, -, ⟨h0, h1⟩, -⟩ := idx_facts t
  funext a; apply Fin.ext
  match a with
  | ⟨0, _⟩ => show win0_2.index t 0 * 512 + 1 * l.val = t.val % 8 * 512 + l.val; omega
  | ⟨1, _⟩ => show win0_2.index t 1 * 11392 + 1 * k.val = k.val; omega

/-- The block of channel scales at point `t`. -/
theorem emb3 (t : Fin cfg0.N) (l : Fin 512) :
    ((cfg0.win 3).blk t).view.emb (ix2 0 l) = (ix2 0 (col t l) : S1x4096.Idx) := by
  obtain ⟨-, -, -, ⟨h0, h1⟩, -⟩ := idx_facts t
  funext a; apply Fin.ext
  match a with
  | ⟨0, _⟩ => show win0_3.index t 0 * 1 + 1 * 0 = 0; omega
  | ⟨1, _⟩ => show win0_3.index t 1 * 512 + 1 * l.val = t.val % 8 * 512 + l.val; omega

/-- The block of the residual at point `t`. -/
theorem emb4 (t : Fin cfg0.N) (r : Fin 1024) (l : Fin 512) :
    ((cfg0.win 4).blk t).view.emb (ix2 r l) = (ix2 (row t r) (col t l) : S8192x4096.Idx) := by
  obtain ⟨-, -, -, -, ⟨h0, h1⟩, -⟩ := idx_facts t
  funext a; apply Fin.ext
  match a with
  | ⟨0, _⟩ => show win0_4.index t 0 * 1024 + 1 * r.val = t.val / 8 * 1024 + r.val; omega
  | ⟨1, _⟩ => show win0_4.index t 1 * 512 + 1 * l.val = t.val % 8 * 512 + l.val; omega

/-- The block of the result at point `t`. -/
theorem emb5 (t : Fin cfg0.N) (r : Fin 1024) (l : Fin 512) :
    ((cfg0.win 5).blk t).view.emb (ix2 r l) = (ix2 (row t r) (col t l) : S8192x4096.Idx) := by
  obtain ⟨-, -, -, -, -, ⟨h0, h1⟩⟩ := idx_facts t
  funext a; apply Fin.ext
  match a with
  | ⟨0, _⟩ => show win0_5.index t 0 * 1024 + 1 * r.val = t.val / 8 * 1024 + r.val; omega
  | ⟨1, _⟩ => show win0_5.index t 1 * 512 + 1 * l.val = t.val % 8 * 512 + l.val; omega

theorem hz : (![0, 0] : Fin 2 → Nat) = fun _ => 0 := funext fun a => by fin_cases a <;> rfl

/-- The body loads each block whole and stores its payload over the whole block. -/
theorem out_eq (x0 : Vec Ideal S1024x11392 .fp8e4m3) (x1 : Vec Ideal S1024x1 .f32) (x2 : Vec Ideal S512x11392 .fp8e4m3)
    (x3 : Vec Ideal S1x512 .f32) (x4 : Vec Ideal S1024x512 .bf16) :
    out0_5 (F := Ideal) x0 x1 x2 x3 x4 = k0_pay1 x0 x2 x1 x3 x4 := by
  unfold out0_5
  rw [View.canon_unit_zero hz, View.ld_unit_zero (S := S1024x11392) hz _ x0, View.ld_unit_zero (S := S512x11392) hz _ x2,
    View.ld_unit_zero (S := S1024x1) hz _ x1, View.ld_unit_zero (S := S1x512) hz _ x3,
    View.ld_unit_zero (S := S1024x512) hz _ x4]

/-- What point `t` writes back is its block of the layer. -/
theorem flushed_eq (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after0_5, out_eq]
  funext j
  obtain ⟨r, l, rfl⟩ : ∃ (r : Fin 1024) (l : Fin 512), j = (ix2 r l : S1024x512.Idx) := ⟨j 0, j 1, eq_ix2 j⟩
  show k0_pay1 (F := Ideal) (iblk m c 0 t) (iblk m c 2 t) (iblk m c 1 t) (iblk m c 3 t) (iblk m c 4 t) (ix2 r l)
    = layer m c (((cfg0.win 5).blk t).view.emb (ix2 r l))
  rw [Block.pay_apply, emb5]
  have e0 (k : Fin 11392) : iblk m c 0 t (ix2 r k) = V m c main_v0 (ix2 (row t r) k) :=
    congrArg (V m c main_v0) (emb0 t r k)
  have e1 : iblk m c 1 t (ix2 r 0) = V m c main_v1 (ix2 (row t r) 0) := congrArg (V m c main_v1) (emb1 t r)
  have e2 (k : Fin 11392) : iblk m c 2 t (ix2 l k) = V m c main_arg2 (ix2 (col t l) k) :=
    congrArg (V m c main_arg2) (emb2 t l k)
  have e3 : iblk m c 3 t (ix2 0 l) = V m c main_v2 (ix2 0 (col t l)) := congrArg (V m c main_v2) (emb3 t l)
  have e4 : iblk m c 4 t (ix2 r l) = V m c main_v3 (ix2 (row t r) (col t l)) :=
    congrArg (V m c main_v3) (emb4 t r l)
  simp only [e0, e1, e2, e3, e4]
  rfl

/-- Every index of the result array is in the block of the point of its row block and column block. -/
theorem covered (i : S8192x4096.Idx) :
    ∃ t : Fin cfg0.N, (cfg0.win 5).flush t = true ∧ i ∈ ((cfg0.win 5).blk t).view.set := by
  obtain ⟨a, b, rfl⟩ : ∃ (a : Fin 8192) (b : Fin 4096), i = (ix2 a b : S8192x4096.Idx) := ⟨i 0, i 1, eq_ix2 i⟩
  have hN := N_eq
  let t : Fin cfg0.N := ⟨a.val / 1024 * 8 + b.val / 512, by omega⟩
  have ht : t.val = a.val / 1024 * 8 + b.val / 512 := rfl
  refine ⟨t, flush0_5 t, ?_⟩
  have h := ((cfg0.win 5).blk t).view.emb_mem_set (ix2 ⟨a.val % 1024, by omega⟩ ⟨b.val % 512, by omega⟩ : S1024x512.Idx)
  rw [emb5] at h
  have ea : row t ⟨a.val % 1024, by omega⟩ = a := Fin.ext (by
    show t.val / 8 * 1024 + a.val % 1024 = a.val; omega)
  have eb : col t ⟨b.val % 512, by omega⟩ = b := Fin.ext (by
    show t.val % 8 * 512 + b.val % 512 = b.val; omega)
  rwa [ea, eb] at h

/-- THE RESULT ARRAY after the region is the layer of the arrays that the region finds. -/
theorem final (c : Dev nD) : (dats m 0 c).arrAt 5 cfg0.N = layer m c :=
  (dats m 0 c).arrAt_eq_of_cover 5 (layer m c) (fun t _ => flushed_eq m c t) covered

end Cert.KernelIdeal.Linear

end
-- ==== Proof.Ref.lean ====
/-
  What the reference computes, element by element over the extended reals.
-/
module

public import proofs.«01_k».proof.Proof.Gen.ReferenceIdeal.Skeleton
public import Idealize.ShloMosaic.Lib.Pointwise

@[expose] public section

noncomputable section

namespace Cert.ReferenceIdeal.Linear

open Cert.ReferenceIdeal Cert.ReferenceIdeal.Gen Idealize.ShloMosaic Idealize.SL.Sem

/-- The linear layer at batch entry `b`, token `s` and output channel `n`:
    `(Σ_k x[b, s, k] · w[n, k]) · xs[b, s] · ws[n] + res[b, s, n]`. -/
def linear (x : Vec Ideal S4x2048x11392 .fp8e4m3) (xs : Vec Ideal S4x2048x1 .f32)
    (w : Vec Ideal S4096x11392 .fp8e4m3) (ws : Vec Ideal S4096 .f32) (res : Vec Ideal S4x2048x4096 .bf16)
    (b : Fin 4) (s : Fin 2048) (n : Fin 4096) : EReal :=
  (∑ k : Fin 11392, x (ix3 b s k) * w (ix2 n k)) * xs (ix3 b s 0) * ws (ix1 n) + res (ix3 b s n)

/-- The reference's result at `[b, s, n]` is the linear layer there. -/
theorem pay_apply (x : Vec Ideal S4x2048x11392 .fp8e4m3) (w : Vec Ideal S4096x11392 .fp8e4m3)
    (xs : Vec Ideal S4x2048x1 .f32) (ws : Vec Ideal S4096 .f32) (res : Vec Ideal S4x2048x4096 .bf16)
    (b : Fin 4) (s : Fin 2048) (n : Fin 4096) :
    k0_pay1 (F := Ideal) x w xs ws res (ix3 b s n) = linear x xs w ws res b s n := by
  pointwise [k0_pay1, linear]

end Cert.ReferenceIdeal.Linear

end
-- ==== Proof.Result.lean ====
/-
  The kernel's result after its whole run, element by element over the argument arrays: the host lines before the
  region flatten batch and token into one axis, the region computes the layer there, and the host line after it
  splits that axis again.
-/
module

public import proofs.«01_k».proof.Proof.Array
public import proofs.«01_k».proof.Proof.Ref
public import Idealize.ShloMosaic.Lib.Claim
public import Idealize.ShloMosaic.Lib.StableHlo.RunRead

@[expose] public section

noncomputable section

namespace Cert.KernelIdeal.Linear

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds `x` with batch and token flattened. -/
theorem V_v0 (c : Dev nD) : V m c main_v0
    = shapeCast S8192x11392 (m ((c : Thread nD τ).loc main_arg0) : Vec Ideal S4x2048x11392 .fp8e4m3) shapeCasts_S4x2048x11392_S8192x11392 := by
  show StableHlo.after hostOps0 (fun b => m (c, b)) _ = _
  after_reads_simp
  rfl

/-- The region finds the token scales with batch and token flattened. -/
theorem V_v1 (c : Dev nD) : V m c main_v1
    = shapeCast S8192x1 (m ((c : Thread nD τ).loc main_arg1) : Vec Ideal S4x2048x1 .f32) shapeCasts_S4x2048x1_S8192x1 := by
  show StableHlo.after hostOps0 (fun b => m (c, b)) _ = _
  after_reads_simp
  rfl

/-- The region finds the channel scales as one row. -/
theorem V_v2 (c : Dev nD) : V m c main_v2
    = shapeCast S1x4096 (m ((c : Thread nD τ).loc main_arg3) : Vec Ideal S4096 .f32) shapeCasts_S4096_S1x4096 := by
  show StableHlo.after hostOps0 (fun b => m (c, b)) _ = _
  after_reads_simp
  rfl

/-- The region finds the residual with batch and token flattened. -/
theorem V_v3 (c : Dev nD) : V m c main_v3
    = shapeCast S8192x4096 (m ((c : Thread nD τ).loc main_arg4) : Vec Ideal S4x2048x4096 .bf16) shapeCasts_S4x2048x4096_S8192x4096 := by
  show StableHlo.after hostOps0 (fun b => m (c, b)) _ = _
  after_reads_simp
  rfl

/-- The kernel's result on device `c`: the layer with its token axis split into batch and token. -/
abbrev result (c : Dev nD) : Vec Ideal S4x2048x4096 .bf16 :=
  shapeCast S4x2048x4096 (layer m c) shapeCasts_S8192x4096_S4x2048x4096

/-- What the host line after the region leaves in the result, from any contents. -/
theorem tail (W : Valuation τ sig (Elt Ideal)) : StableHlo.after hostOps1 W (Proc.devRef .tc main_v5)
    = shapeCast S4x2048x4096 (W (Proc.devRef .tc main_v4) : Vec Ideal S8192x4096 .bf16) shapeCasts_S8192x4096_S4x2048x4096 := by
  after_reads_simp
  rfl

/-- What the host line after the region leaves in the result, from what the region left. -/
theorem W_v5 (c : Dev nD) :
    Pipeline.afterTail₀ cfgs (dats m) 0 (V0 m) [hostOps1] c main_v5 = result m c := by
  have h := Pipeline.withArrays_arr spec0 (by decide) c (V0 m c) (fun w => (dats m 0 c).arrAt w cfg0.N) 5
  rw [final] at h
  exact (tail _).trans (congrArg (fun v => shapeCast S4x2048x4096 v shapeCasts_S8192x4096_S4x2048x4096) h)

/-- Flattening the token axis of the operands, the layer, and splitting the axis again is the linear layer. -/
theorem split_flat (x : Vec Ideal S4x2048x11392 .fp8e4m3) (xs : Vec Ideal S4x2048x1 .f32) (w : Vec Ideal S4096x11392 .fp8e4m3)
    (ws : Vec Ideal S4096 .f32) (res : Vec Ideal S4x2048x4096 .bf16) (b : Fin 4) (s : Fin 2048) (n : Fin 4096) :
    (shapeCast S4x2048x4096 (flat (shapeCast S8192x11392 x shapeCasts_S4x2048x11392_S8192x11392)
        (shapeCast S8192x1 xs shapeCasts_S4x2048x1_S8192x1) w (shapeCast S1x4096 ws shapeCasts_S4096_S1x4096)
        (shapeCast S8192x4096 res shapeCasts_S4x2048x4096_S8192x4096) : Vec Ideal S8192x4096 .bf16)
        shapeCasts_S8192x4096_S4x2048x4096 : Vec Ideal S4x2048x4096 .bf16) (ix3 b s n)
      = Cert.ReferenceIdeal.Linear.linear x xs w ws res b s n := by
  pointwise [flat, Cert.ReferenceIdeal.Linear.linear]

/-- The kernel's result at `[b, s, n]` is the linear layer of the argument arrays there. -/
theorem result_apply (c : Dev nD) (b : Fin 4) (s : Fin 2048) (n : Fin 4096) :
    result m c (ix3 b s n)
      = Cert.ReferenceIdeal.Linear.linear (m ((c : Thread nD τ).loc main_arg0)) (m ((c : Thread nD τ).loc main_arg1))
          (m ((c : Thread nD τ).loc main_arg2)) (m ((c : Thread nD τ).loc main_arg3)) (m ((c : Thread nD τ).loc main_arg4)) b s n := by
  unfold result layer
  rw [V_v0, V_v1, V_v2, V_v3, V_main_arg2]
  exact split_flat ..

/-- The kernel's run: its result is `result`, its arguments end unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v5 (Pipeline.mem_restRefs_of main_v5 (by decide) (by decide))).trans (W_v5 m c), h.2 c⟩)
    (θ_run_and (run_main m ρ) (unchanged m ρ))

end Cert.KernelIdeal.Linear

end
-- ==== Proof.lean ====
/-
  The proof of `Cert.Claim`: every program runs to its end with its arguments unchanged and every semaphore counter at
  zero; the idealized kernel is the printed one unrewritten; and over the extended reals the kernel and the reference
  end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.ReferenceIdeal.Value
public import proofs.«01_k».proof.Proof.Result

@[expose] public section

noncomputable section

namespace Cert.Proof

open Idealize.ShloMosaic Idealize.ShloMosaic.TcCoe Idealize.SL.Sem

/-- The kernel's result is the reference's function of the same arguments. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Value.G5 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Linear.result m c := by
  funext i
  obtain ⟨b, s, n, rfl⟩ : ∃ (b : Fin 4) (s : Fin 2048) (n : Fin 4096), i = (ix3 b s n : Cert.ReferenceIdeal.S4x2048x4096.Idx) :=
    ⟨i 0, i 1, i 2, eq_ix3 i⟩
  exact (Cert.ReferenceIdeal.Linear.pay_apply ..).trans (Cert.KernelIdeal.Linear.result_apply m c b s n).symm

/-- The kernel and the reference, from agreeing arguments, end with the same result. -/
theorem algebraic : Cert.algebraic_KernelIdeal_ReferenceIdeal := by
  intro m g m' g' _ hagree
  refine ⟨fun c => Cert.KernelIdeal.Linear.result m c, Cert.KernelIdeal.Linear.run m g,
    (θ_run _ _ _).mono (fun r h c => ⟨(h c).1.trans ?_, (h c).2⟩) (Cert.ReferenceIdeal.Value.run (F := Ideal) m' g')⟩
  obtain ⟨h0, h1, h2, h3, h4⟩ := hagree c
  rw [h0, h1, h2, h3, h4]
  exact result_eq m c

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
